-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S64x100000 : Shape := ⟨2, ![64, 100000]⟩
abbrev S64 : Shape := ⟨1, ![64]⟩
abbrev S100000x64 : Shape := ⟨2, ![100000, 64]⟩
abbrev S100000 : Shape := ⟨1, ![100000]⟩
abbrev S100000x1024 : Shape := ⟨2, ![100000, 1024]⟩
abbrev S64x1024 : Shape := ⟨2, ![64, 1024]⟩
abbrev S2048x1024 : Shape := ⟨2, ![2048, 1024]⟩
abbrev S64x2048 : Shape := ⟨2, ![64, 2048]⟩
abbrev S2048x1 : Shape := ⟨2, ![2048, 1]⟩
abbrev S1x2048 : Shape := ⟨2, ![1, 2048]⟩
abbrev S1x1024 : Shape := ⟨2, ![1, 1024]⟩
abbrev S1x64 : Shape := ⟨2, ![1, 64]⟩
abbrev S64x4096 : Shape := ⟨2, ![64, 4096]⟩
abbrev S4096 : Shape := ⟨1, ![4096]⟩
abbrev S4096x1024 : Shape := ⟨2, ![4096, 1024]⟩
abbrev S1x4096 : Shape := ⟨2, ![1, 4096]⟩

abbrev nBuf : Space → Nat
  | .hbm => 10
  | .vmem => 14
  | .smem => 0
  | _ => 0

abbrev bufTy : (tb : Table) → Fin (tcTables nBuf tb) → BufTy
  | .hbm, ⟨0, _⟩ => ⟨S1024x100000, .f32⟩
  | .hbm, ⟨1, _⟩ => ⟨S64x100000, .f32⟩
  | .hbm, ⟨2, _⟩ => ⟨S64, .f32⟩
  | .hbm, ⟨3, _⟩ => ⟨S100000x64, .f32⟩
  | .hbm, ⟨4, _⟩ => ⟨S100000, .f32⟩
  | .hbm, ⟨5, _⟩ => ⟨S100000x1024, .f32⟩
  | .hbm, ⟨6, _⟩ => ⟨S64x100000, .f32⟩
  | .hbm, ⟨7, _⟩ => ⟨S64x1024, .f32⟩
  | .hbm, ⟨8, _⟩ => ⟨S100000x1024, .f32⟩
  | .hbm, ⟨9, _⟩ => ⟨S1024x100000, .f32⟩
  | .local _ .vmem, ⟨0, _⟩ => ⟨S2048x1024, .f32⟩
  | .local _ .vmem, ⟨1, _⟩ => ⟨S2048x1024, .f32⟩
  | .local _ .vmem, ⟨2, _⟩ => ⟨S64x2048, .f32⟩
  | .local _ .vmem, ⟨3, _⟩ => ⟨S64x2048, .f32⟩
  | .local _ .vmem, ⟨4, _⟩ => ⟨S64, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x4096, .f32⟩
  | .local _ .vmem, ⟨9, _⟩ => ⟨S64x4096, .f32⟩
  | .local _ .vmem, ⟨10, _⟩ => ⟨S4096, .f32⟩
  | .local _ .vmem, ⟨11, _⟩ => ⟨S4096, .f32⟩
  | .local _ .vmem, ⟨12, _⟩ => ⟨S4096x1024, .f32⟩
  | .local _ .vmem, ⟨13, _⟩ => ⟨S4096x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![49], ![false]⟩

def k0_cond4 (i : grid0.Coords) : BitVec 1 :=
  let arg0 : BitVec 32 := BitVec.ofNat 32 (i 0).val
  let c48_i32_7 : BitVec 32 := 48#32
  let v12 : BitVec 1 := Scalar.cmpi .eq arg0 c48_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1024x100000 : Shape := ⟨2, ![1024, 100000]⟩
abbrev S64x100000 : Shape := ⟨2, ![64, 100000]⟩
abbrev S64 : Shape := ⟨1, ![64]⟩
abbrev S100000x64 : Shape := ⟨2, ![100000, 64]⟩
abbrev S100000 : Shape := ⟨1, ![100000]⟩
abbrev S1024x64 : Shape := ⟨2, ![1024, 64]⟩
abbrev S1x64 : Shape := ⟨2, ![1, 64]⟩
abbrev S1x100000 : Shape := ⟨2, ![1, 100000]⟩

abbrev nBuf : Space → Nat
  | .hbm => 15
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S64x100000, .f32⟩
  | .hbm, ⟨2, _⟩ => ⟨S64, .f32⟩
  | .hbm, ⟨3, _⟩ => ⟨S100000x64, .f32⟩
  | .hbm, ⟨4, _⟩ => ⟨S100000, .f32⟩
  | .hbm, ⟨5, _⟩ => ⟨S100000x64, .f32⟩
  | .hbm, ⟨6, _⟩ => ⟨S1024x64, .f32⟩
  | .hbm, ⟨7, _⟩ => ⟨S1x64, .f32⟩
  | .hbm, ⟨8, _⟩ => ⟨S1024x64, .f32⟩
  | .hbm, ⟨9, _⟩ => ⟨S1024x64, .f32⟩
  | .hbm, ⟨10, _⟩ => ⟨S64x100000, .f32⟩
  | .hbm, ⟨11, _⟩ => ⟨S1024x100000, .f32⟩
  | .hbm, ⟨12, _⟩ => ⟨S1x100000, .f32⟩
  | .hbm, ⟨13, _⟩ => ⟨S1024x100000, .f32⟩
  | .hbm, ⟨14, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Bodies.lean ====
/-
  The two kernel bodies, each run once from its staging buffers held at named contents.

  `fc1_body` is the first kernel: at grid point `i` it clears the running sum (first point), adds one block's product
  to it (a plain product before the last point, a masked one at the last), and at the last point writes the running
  sum plus the bias to the output block. `fc2_body` is the second: one block of rows of the result from one block of
  the second weight, one block of the second bias and the whole hidden activation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Tactic
public import Idealize.ShloMosaic.Lib.WritesUnit

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## A whole buffer read and written through its own full rectangle -/

section Whole

variable {κ : Kind} {sp : Space} {s : Shape} {e : EltTy} {M : Memref sig κ sp s e}

/-- A load of a whole buffer at offset zero and the buffer's own size reads its contents. -/
theorem read_full (h : M.IsWhole) {off : Fin s.rank → Nat} (h0 : off = fun _ => 0) (inb : ∀ a, off a + s.size a ≤ s.size a)
    (f : M.view.ty.Contents (Elt F)) :
    M.view.readAt (Elt F) (Rect.unit (s := s) off s.size inb).toLoadRect f = M.view.read (Elt F) f := by
  obtain ⟨b, rfl, rfl, rfl, h⟩ := h; cases h
  exact Memref.readAt_unit_zero (Elt F) b h0 inb f

/-- A store to the whole of a whole buffer leaves what was stored, whatever was stored before. -/
theorem write_full (h : M.IsWhole) {off : Fin s.rank → Nat} (h0 : off = fun _ => 0) (inb : ∀ a, off a + s.size a ≤ s.size a)
    (f : M.view.ty.Contents (Elt F)) (w : s.Idx → Elt F e) (L : List (View.Piece (Elt F) s e)) :
    M.view.read (Elt F) (M.view.writes (Elt F) f (⟨Rect.unit (s := s) off s.size inb, w⟩ :: L)) = w :=
  funext fun y => View.read_writes_cons_unit_of_mem M.view f inb w L y y h0 fun _ => (Nat.zero_add _).symm

/-- The same for a single store. -/
theorem write_once (h : M.IsWhole) {off : Fin s.rank → Nat} (h0 : off = fun _ => 0) (inb : ∀ a, off a + s.size a ≤ s.size a)
    (f : M.view.ty.Contents (Elt F)) (w : s.Idx → Elt F e) :
    M.view.read (Elt F) ((M.access (Rect.unit (s := s) off s.size inb)).write (Elt F) f w Finset.univ) = w :=
  write_full h h0 inb f w []

end Whole

theorem zeros2 : (![0, 0] : Fin 2 → Nat) = fun _ => 0 := funext fun a => by fin_cases a <;> rfl
theorem zeros1 : (![0] : Fin 1 → Nat) = fun _ => 0 := funext fun a => by fin_cases a; rfl

/-! ## The first kernel's body -/

/-- The three conditions the body computes itself: the first point, before the last point, the last point. -/
abbrev isFirst (i : grid0.Coords) : Prop :=
  Scalar.cmpi .ne (Scalar.extui (Scalar.cmpi .eq (BitVec.ofNat 32 (i 0).val) 0#32)) 0#32 = 1#1
abbrev isInner (i : grid0.Coords) : Prop :=
  Scalar.cmpi .ne (Scalar.extui (Scalar.cmpi .slt (BitVec.ofNat 32 (i 0).val) 48#32)) 0#32 = 1#1
abbrev isEdge (i : grid0.Coords) : Prop :=
  Scalar.cmpi .ne (Scalar.extui (Scalar.cmpi .eq (BitVec.ofNat 32 (i 0).val) 48#32)) 0#32 = 1#1

/-- The running sum after point `i`, from the block of the transposed input `x`, the block of the first weight `w`
and the running sum before. -/
def sumStep (i : grid0.Coords) (x : S2048x1024.Idx → Elt F .f32) (w : S64x2048.Idx → Elt F .f32)
    (s : S64x1024.Idx → Elt F .f32) : S64x1024.Idx → Elt F .f32 :=
  let s₀ := if isFirst i then k0_pay1 (F := F) else s
  let s₁ := if isInner i then k0_pay3 x w s₀ else s₀
  if isEdge i then k0_pay4 i x w s₁ else s₁

set_option maxHeartbeats 1000000 in
/-- The first kernel's body at point `i`: the input blocks are left as found, the running sum becomes `sumStep`, and
the output block becomes the new running sum plus the bias at the last point and is left as found elsewhere. -/
theorem fc1_body (c : Dev nD) (E : Set ℕ) (i : grid0.Coords)
    {M1 : Memref sig .tc .vmem S2048x1024 .f32} (h1 : M1.IsWhole) {M2 : Memref sig .tc .vmem S64x2048 .f32} (h2 : M2.IsWhole)
    {M3 : Memref sig .tc .vmem S64 .f32} (h3 : M3.IsWhole) {M4 : Memref sig .tc .vmem S64x1024 .f32} (h4 : M4.IsWhole)
    {M5 : Memref sig .tc .vmem S64x1024 .f32} (h5 : M5.IsWhole) (x w b o s) (K : PUnit → sProp 𝕄) :
    iprop((owns (c : Thread nD τ) M1 fullShare x ∗ owns (c : Thread nD τ) M2 fullShare w ∗ owns (c : Thread nD τ) M3 fullShare b
            ∗ owns (c : Thread nD τ) M4 fullShare o ∗ owns (c : Thread nD τ) M5 fullShare s)
          ∗ (iprop(owns (c : Thread nD τ) M1 fullShare x ∗ owns (c : Thread nD τ) M2 fullShare w ∗ owns (c : Thread nD τ) M3 fullShare b
              ∗ owns (c : Thread nD τ) M4 fullShare (if k0_cond4 i = 1#1 then k0_pay5 b (sumStep i x w s) else o)
              ∗ owns (c : Thread nD τ) M5 fullShare (sumStep i x w s)) -∗ K ⟨⟩))
      ⊢ wp frame (wpE (defs₀ (F := F)) Variants.none c none) E (cc0__fc1_body i M1 h1 M2 h2 M3 h3 M4 h4 M5 h5) K := by
  simp only [cc0__fc1_body_eq_skeleton]; unfold cc0__fc1_body_skel owns sumStep
  simp only [h1.set_eq_univ, h2.set_eq_univ, h3.set_eq_univ, h4.set_eq_univ, h5.set_eq_univ]
  iintro ⟨⟨⟨%f1, %e1, H1⟩, ⟨%f2, %e2, H2⟩, ⟨%f3, %e3, H3⟩, ⟨%f4, %e4, H4⟩, ⟨%f5, %e5, H5⟩⟩, Hk⟩
  have c4 : (k0_cond4 i = 1#1) = isEdge i := rfl
  by_cases c1 : isFirst i <;> by_cases c2 : isInner i <;> by_cases c3 : isEdge i <;>
  · unfold isFirst at c1; unfold isInner at c2; unfold isEdge at c3
    simp only [c4, isFirst, isInner, isEdge, c1, c2, c3, ↓reduceIte, ↓reduceDIte, Prog.lift, Prog.bind_op, Prog.bind_ret]
    sl_steps
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists _; isplitr; swap; · iexact H4
                    ipureintro
                    simp only [write_once h4 zeros2, write_once h5 zeros2, write_full h5 zeros2, read_full h1 zeros2, read_full h2 zeros2, read_full h3 zeros1, read_full h5 zeros2, e1, e2, e3, e4, e5]
    iexists _; isplitr; swap; · iexact H5
    ipureintro
    simp only [write_once h4 zeros2, write_once h5 zeros2, write_full h5 zeros2, read_full h1 zeros2, read_full h2 zeros2, read_full h3 zeros1, read_full h5 zeros2, e1, e2, e3, e4, e5]

/-! ## The second kernel's body -/

/-- The second kernel's body: the three input blocks are left as found, and the output block becomes the product of
the weight block with the hidden activation plus the bias block. -/
theorem fc2_body (c : Dev nD) (E : Set ℕ) (i : grid1.Coords)
    {M1 : Memref sig .tc .vmem S64x1024 .f32} (h1 : M1.IsWhole) {M2 : Memref sig .tc .vmem S64x4096 .f32} (h2 : M2.IsWhole)
    {M3 : Memref sig .tc .vmem S4096 .f32} (h3 : M3.IsWhole) {M4 : Memref sig .tc .vmem S4096x1024 .f32} (h4 : M4.IsWhole)
    (h w b o) (K : PUnit → sProp 𝕄) :
    iprop((owns (c : Thread nD τ) M1 fullShare h ∗ owns (c : Thread nD τ) M2 fullShare w ∗ owns (c : Thread nD τ) M3 fullShare b
            ∗ owns (c : Thread nD τ) M4 fullShare o)
          ∗ (iprop(owns (c : Thread nD τ) M1 fullShare h ∗ owns (c : Thread nD τ) M2 fullShare w ∗ owns (c : Thread nD τ) M3 fullShare b
              ∗ owns (c : Thread nD τ) M4 fullShare (k1_pay1 b w h)) -∗ K ⟨⟩))
      ⊢ wp frame (wpE (defs₀ (F := F)) Variants.none c none) E (cc1__fc2_body i M1 h1 M2 h2 M3 h3 M4 h4) K := by
  simp only [cc1__fc2_body_eq_skeleton]; unfold cc1__fc2_body_skel owns
  simp only [h1.set_eq_univ, h2.set_eq_univ, h3.set_eq_univ, h4.set_eq_univ]
  iintro ⟨⟨⟨%f1, %e1, H1⟩, ⟨%f2, %e2, H2⟩, ⟨%f3, %e3, H3⟩, ⟨%f4, %e4, H4⟩⟩, Hk⟩
  simp only [Prog.lift, Prog.bind_op, Prog.bind_ret]
  sl_steps
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap; · iexact H4
  ipureintro
  simp only [write_once h4 zeros2, read_full h1 zeros2, read_full h2 zeros2, read_full h3 zeros1, e1, e2, e3]

end Cert.TwoLayer

end
-- ==== Proof.Fc1Block.lean ====
/-
  The first kernel's running sum, block by block.

  `stepAt` is one grid point's update of the running sum from the two fetched blocks; `stepAt_congr` says the update
  does not depend on what the staging buffers hold past the arrays' ends (there the last point replaces both blocks by
  zero) nor, at the first point, on what the running sum held before.
-/
module

public import proofs.«01_k».proof.Proof.Bodies
public import Idealize.ShloMosaic.Lib.Pointwise
public import Idealize.ShloMosaic.Lib.ValueIdxCore
public import Idealize.ShloMosaic.Lib.Pipeline.Value

@[expose] public section

noncomputable section

namespace Cert.TwoLayer

open Cert.KernelIdeal Cert.KernelIdeal.Gen

open Idealize.ShloMosaic
open Idealize.ShloMosaic.TcCoe

variable {F : FTy → Type} [FloatOps F]

/-! ## The grid points' conditions and cuts -/

theorem isFirst_iff : ∀ t : Fin grid0.N, isFirst (grid0.coords t) ↔ t.val = 0 := by decide +kernel
theorem isInner_iff : ∀ t : Fin grid0.N, isInner (grid0.coords t) ↔ t.val < 48 := by decide +kernel
theorem isEdge_iff : ∀ t : Fin grid0.N, isEdge (grid0.coords t) ↔ t.val = 48 := by decide +kernel

/-- How many rows of the transposed input, and how many columns of the first weight, each point moves. -/
theorem rows0 : ∀ t : Fin grid0.N, win0_0.xsize (grid0.coords t) 0 = min 2048 (100000 - t.val * 2048) := by decide +kernel
theorem lanes0 : ∀ t : Fin grid0.N, win0_0.xsize (grid0.coords t) 1 = 1024 := by decide +kernel
theorem rows1 : ∀ t : Fin grid0.N, win0_1.xsize (grid0.coords t) 0 = 64 := by decide +kernel
theorem lanes1 : ∀ t : Fin grid0.N, win0_1.xsize (grid0.coords t) 1 = min 2048 (100000 - t.val * 2048) := by decide +kernel

/-- An element of the input's block is moved when its row lies inside the array; -/
theorem moved0 (t : Fin grid0.N) (j : S2048x1024.Idx) (h : (j 0).val < 100000 - t.val * 2048) :
    win0_0.moved (grid0.coords t) j = true := by
  refine (win0_0.moved_iff _ j).mpr fun a => ?_
  match a with
  | ⟨0, _⟩ => exact lt_of_lt_of_eq (lt_min (j 0).isLt h) (rows0 t).symm
  | ⟨1, _⟩ => exact lt_of_lt_of_eq (j 1).isLt (lanes0 t).symm

/-- an element of the weight's block when its column does. -/
theorem moved1 (t : Fin grid0.N) (j : S64x2048.Idx) (h : (j 1).val < 100000 - t.val * 2048) :
    win0_1.moved (grid0.coords t) j = true := by
  refine (win0_1.moved_iff _ j).mpr fun a => ?_
  match a with
  | ⟨0, _⟩ => exact lt_of_lt_of_eq (j 0).isLt (rows1 t).symm
  | ⟨1, _⟩ => exact lt_of_lt_of_eq (lt_min (j 1).isLt h) (lanes1 t).symm

/-! ## The masks of the last point -/

/-- Below the bound, as the last point's comparison states it. -/
def inBound (i : grid0.Coords) (n : Nat) : Bool :=
  (BitVec.ofNat 32 n).slt (Scalar.subi 100000#32 (Scalar.muli (BitVec.ofNat 32 (i 0).val) 2048#32))

theorem bound_last : ∀ t : Fin grid0.N, t.val = 48 →
    Scalar.subi 100000#32 (Scalar.muli (BitVec.ofNat 32 (grid0.coords t 0).val) 2048#32) = 1696#32 := by decide +kernel

/-- At the last point the bound is the number of rows left: 1696. -/
theorem inBound_last (t : Fin grid0.N) (ht : t.val = 48) (n : Nat) (hn : n < 2048) :
    inBound (grid0.coords t) n = decide (n < 1696) := by
  unfold inBound
  rw [bound_last t ht]
  have := (by decide +kernel : ∀ n : Fin 2048, (BitVec.ofNat 32 n.val).slt 1696#32 = decide (n.val < 1696)) ⟨n, hn⟩
  exact this

/-- The last point's mask of the input's block, at an element: its row is below the bound; -/
theorem mask_rows (b : BitVec 32) (j : S2048x1024.Idx) :
    broadcastTo S2048x1024 (cmpi .slt (iota .tc S2048x1 32 [0] iota_S2048x1_d0_w32) (broadcast S2048x1 b))
      broadcasts_S2048x1_S2048x1024 j = IntOp.cmpi .slt (BitVec.ofNat 32 (j 0).val) b := by
  rw [broadcastTo_apply _ _ j (show S2048x1.Idx from fun a => match a with | ⟨0, _⟩ => j 0 | ⟨1, _⟩ => (0 : Fin 1))
    (by intro a; match a with | ⟨0, _⟩ => rfl | ⟨1, _⟩ => rfl)]
  simp only [pointwise]
  show IntOp.cmpi .slt (BitVec.ofNat 32 (0 * 2048 + (j 0).val)) b = _
  rw [Nat.zero_mul, Nat.zero_add]

/-- and of the weight's block: its column is. -/
theorem mask_lanes (b : BitVec 32) (j : S64x2048.Idx) :
    broadcastTo S64x2048 (cmpi .slt (iota .tc S1x2048 32 [1] iota_S1x2048_d1_w32) (broadcast S1x2048 b))
      broadcasts_S1x2048_S64x2048 j = IntOp.cmpi .slt (BitVec.ofNat 32 (j 1).val) b := by
  rw [broadcastTo_apply _ _ j (show S1x2048.Idx from fun a => match a with | ⟨0, _⟩ => (0 : Fin 1) | ⟨1, _⟩ => j 1)
    (by intro a; match a with | ⟨0, _⟩ => rfl | ⟨1, _⟩ => rfl)]
  simp only [pointwise]
  show IntOp.cmpi .slt (BitVec.ofNat 32 (0 * 2048 + (j 1).val)) b = _
  rw [Nat.zero_mul, Nat.zero_add]

/-- The comparison's one-bit answer is one when the comparison holds. -/
theorem slt_word (a b : BitVec 32) : IntOp.cmpi .slt a b = 1#1 ↔ a.slt b = true := by
  show BitVec.ofBool (a.slt b) = 1#1 ↔ _
  cases a.slt b <;> decide

/-- The last point's update, its masks written out at each index. -/
theorem pay4_eq (i : grid0.Coords) (x : S2048x1024.Idx → Elt F .f32) (w : S64x2048.Idx → Elt F .f32)
    (s : S64x1024.Idx → Elt F .f32) :
    k0_pay4 i x w s = k0_pay3 (fun j => if inBound i (j 0).val = true then x j else Scalar.ofBits .f32 0x00000000#32)
      (fun j => if inBound i (j 1).val = true then w j else Scalar.ofBits .f32 0x00000000#32) s := by
  unfold k0_pay4 k0_pay3 k0_pay2
  dsimp only
  simp only [shapeCast_self]
  have ex : ∀ b : BitVec 32, select (broadcastTo S2048x1024 (cmpi .slt (iota .tc S2048x1 32 [0] iota_S2048x1_d0_w32) (broadcast S2048x1 b))
      broadcasts_S2048x1_S2048x1024) x (broadcast S2048x1024 (Scalar.ofBits .f32 0x00000000#32 : F .f32))
      = fun j => if (BitVec.ofNat 32 (j 0).val).slt b = true then x j else Scalar.ofBits .f32 0x00000000#32 := by
    intro b; funext j
    show (if broadcastTo S2048x1024 _ broadcasts_S2048x1_S2048x1024 j = 1#1 then x j else _) = _
    rw [mask_rows]
    exact if_congr (slt_word _ _) rfl rfl
  have ew : ∀ b : BitVec 32, select (broadcastTo S64x2048 (cmpi .slt (iota .tc S1x2048 32 [1] iota_S1x2048_d1_w32) (broadcast S1x2048 b))
      broadcasts_S1x2048_S64x2048) w (broadcast S64x2048 (Scalar.ofBits .f32 0x00000000#32 : F .f32))
      = fun j => if (BitVec.ofNat 32 (j 1).val).slt b = true then w j else Scalar.ofBits .f32 0x00000000#32 := by
    intro b; funext j
    show (if broadcastTo S64x2048 _ broadcasts_S1x2048_S64x2048 j = 1#1 then w j else _) = _
    rw [mask_lanes]
    exact if_congr (slt_word _ _) rfl rfl
  rw [ex, ew]
  rfl

/-- One point's update depends on the blocks only where their elements lie inside the arrays, and at the first point
not on the running sum before it. -/
theorem sumStep_congr (t : Fin grid0.N) {x x' : S2048x1024.Idx → Elt F .f32} {w w' : S64x2048.Idx → Elt F .f32}
    {s s' : S64x1024.Idx → Elt F .f32} (hx : ∀ j, win0_0.moved (grid0.coords t) j = true → x j = x' j)
    (hw : ∀ j, win0_1.moved (grid0.coords t) j = true → w j = w' j) (hs : t.val ≠ 0 → s = s') :
    sumStep (grid0.coords t) x w s = sumStep (grid0.coords t) x' w' s' := by
  have e₀ : (if isFirst (grid0.coords t) then k0_pay1 (F := F) else s) = if isFirst (grid0.coords t) then k0_pay1 else s' :=
    if h : isFirst (grid0.coords t) then by rw [if_pos h, if_pos h]
    else by rw [if_neg h, if_neg h]; exact hs fun h0 => h ((isFirst_iff t).mpr h0)
  unfold sumStep
  rw [e₀]
  by_cases hi : isInner (grid0.coords t)
  · have hlt := (isInner_iff t).mp hi
    have ex : x = x' := funext fun j => hx j (moved0 t j (by have := (j 0).isLt; change (j 0).val < 2048 at this; omega))
    have ew : w = w' := funext fun j => hw j (moved1 t j (by have := (j 1).isLt; change (j 1).val < 2048 at this; omega))
    rw [ex, ew]
  · simp only [if_neg hi]
    by_cases he : isEdge (grid0.coords t)
    · have h48 := (isEdge_iff t).mp he
      simp only [if_pos he, pay4_eq]
      refine congrArg₂ (fun x w => k0_pay3 x w _) (funext fun j => ?_) (funext fun j => ?_)
      · rw [inBound_last t h48 _ (j 0).isLt]
        by_cases hj : (j 0).val < 1696
        · rw [if_pos (decide_eq_true hj), if_pos (decide_eq_true hj)]
          exact hx j (moved0 t j (by omega))
        · rw [if_neg (by simpa using hj), if_neg (by simpa using hj)]
      · rw [inBound_last t h48 _ (j 1).isLt]
        by_cases hj : (j 1).val < 1696
        · rw [if_pos (decide_eq_true hj), if_pos (decide_eq_true hj)]
          exact hw j (moved1 t j (by omega))
        · rw [if_neg (by simpa using hj), if_neg (by simpa using hj)]
    · simp only [if_neg he]

/-- Two fills of one block agree on what the fill moves. -/
theorem fill_moved {G : Pipeline.Grid} (w : Pipeline.Window sig G) (i : G.Coords) {α : Type} (d d' : w.block.Idx → α)
    (g : (w.xblock i).Idx → α) (j : w.block.Idx) (h : w.moved i j = true) : w.fill i d g j = w.fill i d' g j := by
  unfold Pipeline.Window.fill
  rw [dif_pos h, dif_pos h]

end Cert.TwoLayer
-- ==== Proof.Fc1Region.lean ====
/-
  The first kernel's pipeline: its proof data and its body obligation.

  The running sum after `n` points is `acc n`; the scratch buffer holds it between points (whatever it held before the
  first). The two weight-sized windows are stated on the part of the block inside the array; the output block is
  written at the last point only, with `hidden`: the whole running sum plus the bias.
-/
module

public import proofs.«01_k».proof.Proof.Fc1Block
public import Idealize.ShloMosaic.Lib.Pipeline.FrameBody

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (c : Dev nD) (V : (b : Ref sig .tc) → Buf (Elt F) ((c : Thread nD τ).loc b))

/-! ## What the fetches read, and the running sum -/

/-- The part inside the array of the transposed input's block at point `t`; -/
def xPart (t : Fin cfg0.N) : (win0_0.xblock (grid0.coords t)).Idx → Elt F .f32 :=
  (win0_0.blk t).view.read (Elt F) (V main_v0)
/-- of the first weight's. -/
def wPart (t : Fin cfg0.N) : (win0_1.xblock (grid0.coords t)).Idx → Elt F .f32 :=
  (win0_1.blk t).view.read (Elt F) (V main_arg1)
/-- The same as whole blocks, filled out past the array's end with the zero word. -/
def xFull (t : Fin cfg0.N) : S2048x1024.Idx → Elt F .f32 :=
  win0_0.fill (grid0.coords t) (fun _ => Scalar.ofBits .f32 0#32) (xPart c V t)
def wFull (t : Fin cfg0.N) : S64x2048.Idx → Elt F .f32 :=
  win0_1.fill (grid0.coords t) (fun _ => Scalar.ofBits .f32 0#32) (wPart c V t)

/-- The running sum after the first `n` points. -/
def acc : Nat → S64x1024.Idx → Elt F .f32
  | 0 => k0_pay1
  | n + 1 => if h : n < cfg0.N then sumStep (grid0.coords ⟨n, h⟩) (xFull c V ⟨n, h⟩) (wFull c V ⟨n, h⟩) (acc n) else acc n

theorem acc_succ (t : Fin cfg0.N) :
    acc c V (t.val + 1) = sumStep (grid0.coords t) (xFull c V t) (wFull c V t) (acc c V t.val) := by
  rw [acc, dif_pos t.isLt]

/-- The hidden activation: the whole running sum plus the bias. -/
def hidden : S64x1024.Idx → Elt F .f32 := k0_pay5 (V main_arg2) (acc c V 49)

/-! ## The proof data -/

/-- The scratch buffer before point `n`: the running sum so far (anything before the first point), beside what turns
it back into the region's remaining buffers. -/
def scratchAt (n : Nat) : sProp 𝕄 :=
  iprop((∃ s, ⌜n ≠ 0 → s = acc c V n⌝ ∗ owns (c : Thread nD τ) (Memref.whole cc0_scratch0) fullShare s)
    ∗ (iprop(∃ f : Buf (Elt F) ((c : Thread nD τ).loc cc0_scratch0), ((c : Thread nD τ).loc cc0_scratch0) ↦{fullShare} f)
        -∗ Pipeline.scopedRest (Ix := Unit) (Name := ℕ) (U := UR sig nD τ) (Lvl := ℕ) (Val := Elt F) spec0 c))

/-- The first pipeline's proof data: the arrays at `V`; after each point the input buffers at their blocks, and the
output buffer (written at the last point only) at the hidden activation. -/
def dat0 : Dat τ (Elt F) Unit ℕ (UR sig nD τ) ℕ cfg0 c where
  A w := V (Pipeline.arrRef spec0 w)
  after w t := match w with
    | ⟨0, _⟩ => xFull c V t
    | ⟨1, _⟩ => wFull c V t
    | ⟨2, _⟩ => V main_arg2
    | ⟨3, _⟩ => hidden c V
  Φ n := scratchAt c V n.val
  q _ := fullShare
  owed _ := 0

theorem before0_0 (t : Fin cfg0.N) (d) : (dat0 c V).before (0 : Fin 4) t d = win0_0.fill (grid0.coords t) d (xPart c V t) := by
  unfold Dat.before; rw [if_pos (fetch0_0 t)]; rfl
theorem before0_1 (t : Fin cfg0.N) (d) : (dat0 c V).before (1 : Fin 4) t d = win0_1.fill (grid0.coords t) d (wPart c V t) := by
  unfold Dat.before; rw [if_pos (fetch0_1 t)]; rfl

/-- The bias window covers its whole array at every point. -/
theorem read0_2 (t : Fin cfg0.N) (f : main_arg2.ty.Contents (Elt F)) : (win0_2.blk t).view.read (Elt F) f = f := by
  funext j
  show f ((win0_2.rect t).emb j) = f j
  congr 1
  funext a
  match a with
  | ⟨0, _⟩ => exact Fin.ext ((Rect.emb_apply _ _ _).trans ((Nat.zero_add _).trans (Nat.one_mul _)))

theorem before0_2 (t : Fin cfg0.N) (d) : (dat0 c V).before (2 : Fin 4) t d = V main_arg2 := by
  rw [Dat.before_in_eq_fetched (dat0 c V) (2 : Fin 4) rfl (fun _ => rfl) (fun _ _ _ => rfl) (fun t => (read0_2 (F := F) t _).symm) t d]
  exact read0_2 (F := F) t _

theorem body0 : BodyObligationLoose (dat0 c V) (defs₀ (F := F)) Variants.none () Set.univ := fun t => by
  rw [bigSep_W0, bigSep_W0]
  simp only
  rw [show (dat0 c V).Φ t.castSucc = scratchAt c V t.val from by dsimp only [dat0]; exact congrArg (scratchAt c V) (Fin.val_castSucc t),
    show (dat0 c V).Φ t.succ = scratchAt c V (t.val + 1) from by dsimp only [dat0]; exact congrArg (scratchAt c V) (Fin.val_succ t),
    show (dat0 c V).owesAt () t.succ = (dat0 c V).owesAt () t.castSucc from rfl]
  unfold scratchAt
  iintro ⟨⟨⟨%s, %hs, HS⟩, HR⟩, Ho, ⟨%d0, H0⟩, ⟨%d1, H1⟩, ⟨%d2, H2⟩, ⟨%d3, H3⟩⟩
  rw [before0_0 c V t d0, before0_1 c V t d1, before0_2 c V t d2]
  have hx : win0_0.cut (grid0.coords t) (xFull c V t) = xPart c V t := win0_0.cut_fill _ _ _
  have hw : win0_1.cut (grid0.coords t) (wFull c V t) = wPart c V t := win0_1.cut_fill _ _ _
  have hstep : sumStep (grid0.coords t) (win0_0.fill (grid0.coords t) d0 (xPart c V t)) (win0_1.fill (grid0.coords t) d1 (wPart c V t)) s
      = acc c V (t.val + 1) :=
    (sumStep_congr t (fun j hj => fill_moved win0_0 _ _ _ _ j hj) (fun j hj => fill_moved win0_1 _ _ _ _ j hj) hs).trans
      (acc_succ c V t).symm
  iapply (fc1_body (F := F) c Set.univ (grid0.coords t) (hstage0_0 ((cfg0.slots t 0).cast nbuf0_0))
    (hstage0_1 ((cfg0.slots t 1).cast nbuf0_1)) (hstage0_2 ((cfg0.slots t 2).cast nbuf0_2))
    (hstage0_3 ((cfg0.slots t 3).cast nbuf0_3)) (Memref.isWhole_whole cc0_scratch0)
    (win0_0.fill (grid0.coords t) d0 (xPart c V t)) (win0_1.fill (grid0.coords t) d1 (wPart c V t)) (V main_arg2)
    ((dat0 c V).before (3 : Fin 4) t d3) s _)
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  rw [hstep]
  isplitl [HS HR]
  · isplitl [HS]
    · iexists _; isplitr
      swap; · iexact HS
      ipureintro; exact fun _ => rfl
    iexact HR
  isplitl [Ho]; · iexact Ho
  isplitl [H0]
  · iexists d0
    change _ ⊢ owns (c : Thread nD τ) (stage0_0 (cfg0.slots t 0)) fullShare (win0_0.fill (grid0.coords t) d0 (win0_0.cut (grid0.coords t) (xFull c V t)))
    rw [hx]; exact .rfl
  isplitl [H1]
  · iexists d1
    change _ ⊢ owns (c : Thread nD τ) (stage0_1 (cfg0.slots t 1)) fullShare (win0_1.fill (grid0.coords t) d1 (win0_1.cut (grid0.coords t) (wFull c V t)))
    rw [hw]; exact .rfl
  isplitl [H2]; · iexact H2
  by_cases h48 : t.val = 48
  · have hc : k0_cond4 (grid0.coords t) = 1#1 := (isEdge_iff t).mpr h48
    have hidle : idle0 3 (grid0.coords t) = false := by
      show (!(k0_cond4 (grid0.coords t) == 1#1)) = false
      rw [hc]; rfl
    rw [if_pos hc, hidle]
    have h49 : acc c V (t.val + 1) = acc c V 49 := by rw [h48]
    rw [h49]
    change _ ⊢ owns (c : Thread nD τ) (stage0_3 (cfg0.slots t 3)) fullShare (hidden c V)
    unfold hidden
    exact .rfl
  · have hc : ¬ k0_cond4 (grid0.coords t) = 1#1 := fun h => h48 ((isEdge_iff t).mp h)
    have hidle : idle0 3 (grid0.coords t) = true := by
      show (!(k0_cond4 (grid0.coords t) == 1#1)) = true
      rw [beq_eq_false_iff_ne.mpr hc]; rfl
    have hflush : (cfg0.win 3).flush t = false := by
      rw [Bool.eq_false_iff]
      intro h
      have hN : t.val < 49 := t.isLt
      have := (flush0_3 t).mp h
      omega
    rw [if_neg hc, hidle, hflush]
    iexists d3
    iexact H3

end Cert.TwoLayer
-- ==== Proof.Fc2Region.lean ====
/-
  The second kernel's pipeline: its proof data and its body obligation.

  Each point's output block is the product of the fetched blocks with the hidden activation, whatever the staging
  buffers hold past the arrays' ends: `Row t X` says exactly that of a block `X` (at some such contents).
-/
module

public import proofs.«01_k».proof.Proof.Fc1Region
public import Idealize.ShloMosaic.Lib.Pipeline.DatRel

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F]

local notation "𝕄" => MT nD τ sig Unit (Elt F) ℕ (UR sig nD τ) ℕ

variable (c : Dev nD) (V : (b : Ref sig .tc) → Buf (Elt F) ((c : Thread nD τ).loc b))

/-- The part inside the array of the transposed second weight's block at point `t`; -/
def uPart (t : Fin cfg1.N) : (win1_1.xblock (grid1.coords t)).Idx → Elt F .f32 :=
  (win1_1.blk t).view.read (Elt F) (V main_v1)
/-- of the second bias's. -/
def bPart (t : Fin cfg1.N) : (win1_2.xblock (grid1.coords t)).Idx → Elt F .f32 :=
  (win1_2.blk t).view.read (Elt F) (V main_arg4)

/-- What point `t` may leave in the output buffer: the block computed from the fetched blocks, at some contents of the
staging buffers past the arrays' ends. -/
def Row (t : Fin cfg1.N) (X : S4096x1024.Idx → Elt F .f32) : Prop :=
  ∃ (d1 : S64x4096.Idx → Elt F .f32) (d2 : S4096.Idx → Elt F .f32),
    X = k1_pay1 (win1_2.fill (grid1.coords t) d2 (bPart c V t)) (win1_1.fill (grid1.coords t) d1 (uPart c V t)) (V main_v2)

/-- The second pipeline's proof data: the arrays at `V`, the inputs' buffers at their blocks. -/
def dat1 : Dat τ (Elt F) Unit ℕ (UR sig nD τ) ℕ cfg1 c where
  A w := V (Pipeline.arrRef spec1 w)
  after w t := match w with
    | ⟨0, _⟩ => V main_v2
    | ⟨1, _⟩ => win1_1.fill (grid1.coords t) (fun _ => Scalar.ofBits .f32 0#32) (uPart c V t)
    | ⟨2, _⟩ => win1_2.fill (grid1.coords t) (fun _ => Scalar.ofBits .f32 0#32) (bPart c V t)
    | ⟨3, _⟩ => fun _ => Scalar.ofBits .f32 0#32
  Φ _ := Pipeline.scopedRest (Ix := Unit) (Name := ℕ) (U := UR sig nD τ) (Lvl := ℕ) (Val := Elt F) spec1 c
  q _ := fullShare
  owed _ := 0

/-- The output window is stated by a relation, -/
def rel1 (w : Fin cfg1.W) : Bool := match w with
  | ⟨0, _⟩ => false
  | ⟨1, _⟩ => false
  | ⟨2, _⟩ => false
  | ⟨3, _⟩ => true
/-- which is `Row`. -/
def Rel1 (w : Fin cfg1.W) (t : Fin cfg1.N) : ((cfg1.win w).block.Idx → Elt F (cfg1.win w).elt) → Prop :=
  match w with
  | ⟨0, _⟩ => fun _ => True
  | ⟨1, _⟩ => fun _ => True
  | ⟨2, _⟩ => fun _ => True
  | ⟨3, _⟩ => Row c V t

theorem before1_1 (t : Fin cfg1.N) (d) : (dat1 c V).before (1 : Fin 4) t d = win1_1.fill (grid1.coords t) d (uPart c V t) := by
  unfold Dat.before; rw [if_pos (fetch1_1 t)]; rfl
theorem before1_2 (t : Fin cfg1.N) (d) : (dat1 c V).before (2 : Fin 4) t d = win1_2.fill (grid1.coords t) d (bPart c V t) := by
  unfold Dat.before; rw [if_pos (fetch1_2 t)]; rfl

/-- The hidden activation's window covers its whole array at every point. -/
theorem read1_0 (t : Fin cfg1.N) (f : main_v2.ty.Contents (Elt F)) : (win1_0.blk t).view.read (Elt F) f = f := by
  funext j
  show f ((win1_0.rect t).emb j) = f j
  congr 1
  funext a
  match a with
  | ⟨0, _⟩ => exact Fin.ext ((Rect.emb_apply _ _ _).trans ((Nat.zero_add _).trans (Nat.one_mul _)))
  | ⟨1, _⟩ => exact Fin.ext ((Rect.emb_apply _ _ _).trans ((Nat.zero_add _).trans (Nat.one_mul _)))

theorem before1_0 (t : Fin cfg1.N) (d) : (dat1 c V).before (0 : Fin 4) t d = V main_v2 := by
  rw [Dat.before_in_eq_fetched (dat1 c V) (0 : Fin 4) rfl (fun _ => rfl) (fun _ _ _ => rfl) (fun t => (read1_0 (F := F) t _).symm) t d]
  exact read1_0 (F := F) t _

/-- The second kernel's body obligation. -/
theorem body1 : BodyObligationRel (dat1 c V) (defs₀ (F := F)) Variants.none () Set.univ rel1 (Rel1 c V) := fun t => by
  rw [bigSep_W1, bigSep_W1]
  rw [show rel1 (0 : Fin 4) = false from rfl, show rel1 (1 : Fin 4) = false from rfl, show rel1 (2 : Fin 4) = false from rfl,
    show rel1 (3 : Fin 4) = true from rfl]
  simp only
  rw [show (dat1 c V).Φ t.succ = (dat1 c V).Φ t.castSucc from rfl,
    show (dat1 c V).owesAt () t.succ = (dat1 c V).owesAt () t.castSucc from rfl]
  iintro ⟨HΦ, Ho, ⟨%d0, H0⟩, ⟨%d1, H1⟩, ⟨%d2, H2⟩, ⟨%d3, %_hf, H3⟩⟩
  rw [before1_0 c V t d0, before1_1 c V t d1, before1_2 c V t d2]
  have hu : win1_1.cut (grid1.coords t) ((dat1 c V).after (1 : Fin 4) t) = uPart c V t := win1_1.cut_fill _ _ _
  have hb : win1_2.cut (grid1.coords t) ((dat1 c V).after (2 : Fin 4) t) = bPart c V t := win1_2.cut_fill _ _ _
  iapply (fc2_body (F := F) c Set.univ (grid1.coords t) (hstage1_0 ((cfg1.slots t 0).cast nbuf1_0))
    (hstage1_1 ((cfg1.slots t 1).cast nbuf1_1)) (hstage1_2 ((cfg1.slots t 2).cast nbuf1_2))
    (hstage1_3 ((cfg1.slots t 3).cast nbuf1_3)) (V main_v2)
    (win1_1.fill (grid1.coords t) d1 (uPart c V t)) (win1_2.fill (grid1.coords t) d2 (bPart c V t)) d3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (stage1_1 (cfg1.slots t 1)) fullShare (win1_1.fill (grid1.coords t) d1 (win1_1.cut (grid1.coords t) ((dat1 c V).after (1 : Fin 4) t)))
    rw [hu]; exact .rfl
  isplitl [H2]
  · iexists d2
    change _ ⊢ owns (c : Thread nD τ) (stage1_2 (cfg1.slots t 2)) fullShare (win1_2.fill (grid1.coords t) d2 (win1_2.cut (grid1.coords t) ((dat1 c V).after (2 : Fin 4) t)))
    rw [hb]; exact .rfl
  iexists _
  isplitr
  swap; · iexact H3
  ipureintro
  exact ⟨d1, d2, rfl⟩

end Cert.TwoLayer
-- ==== Proof.Regions.lean ====
/-
  The two pipelines as regions of the program, over the core's unscoped buffers.

  A region is entered with every unscoped buffer at named contents and left with all of them unchanged but its result
  array, which holds some contents the pipeline's proof data allow.
-/
module

public import proofs.«01_k».proof.Proof.Fc2Region
public import proofs.«01_k».proof.Proof.Gen.KernelIdeal.Regions
public import Idealize.ShloMosaic.Lib.Pipeline.RegionsLoop
public import Idealize.ShloMosaic.Lib.Pipeline.ArrRel
public import Idealize.ShloMosaic.Lib.Pipeline.ValueKit

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

/-- A core owes nothing. -/
def settled (c : Dev nD) : sProp 𝕄 := iprop(∃ W, owes (c : Thread nD τ) (0 : CellTallies nD τ sig Unit) W)

section Region

variable (rdats : (p : Fin 2) → (c : Dev nD) → RDat τ (Elt F) Unit ℕ (UR sig nD τ) ℕ (Pipeline.pin (pcfgs (F := F)) adm p) c)
  {p : Fin 2} (kit : Pipeline.LaunchFacts (nD := nD) (τ := τ) cfgs p)

include kit

/-- Leaving a region: the arrays as the write-backs may have left them, beside the other unscoped buffers, are all the
unscoped buffers at contents changed in the result array only. -/
theorem leave (c : Dev nD) (hshare : ∀ w, (rdats p c).share w = fullShare)
    (V : (b : Ref sig .tc) → Buf (Elt F) ((c : Thread nD τ).loc b))
    (hA : ∀ w, (rdats p c).A w = V (Pipeline.arrRef (cfgs p).spec w))
    (o : Fin (cfgs p).W) (hin : ∀ w, w ≠ o → ((cfgs p).win w).isOut = false)
    (mk : Buf (Elt F) ((c : Thread nD τ).loc (Pipeline.arrRef (cfgs p).spec o)) → (b : Ref sig .tc) → Buf (Elt F) ((c : Thread nD τ).loc b))
    (hmk : ∀ G, mk G (Pipeline.arrRef (cfgs p).spec o) = G)
    (hmk' : ∀ G b, b ≠ Pipeline.arrRef (cfgs p).spec o → mk G b = V b) :
    iprop((rdats p c).arraysAt (cfgs p).N ∗ Pipeline.unscopedRest (Ix := Unit) (Name := ℕ) (U := UR sig nD τ) (Lvl := ℕ) (cfgs p).spec c V)
      ⊢ iprop(∃ G, ⌜(rdats p c).ArrAt o (cfgs p).N G⌝ ∗ unscopedBufs (Ix := Unit) (Name := ℕ) (U := UR sig nD τ) (Lvl := ℕ) c (mk G)) := by
  have hsplit : ((rdats p c).arraysAt (cfgs p).N : sProp 𝕄)
      ⊢ iprop(∃ A : (w : Fin (cfgs p).W) → Buf (Elt F) (((cfgs p).win w).arr.view.loc (c : Thread nD τ)),
          ⌜∀ w, (rdats p c).ArrAt w (cfgs p).N (A w)⌝ ∗ (rdats p c).arrays A) := by
    unfold RDat.arraysAt RDat.arrays
    refine (BI.bigSep_exists_pi Finset.univ _).trans ?_
    iintro ⟨%A, H⟩
    ihave H' := (BI.bigSep_pure_sep Finset.univ (fun w => (rdats p c).ArrAt w (cfgs p).N (A w)) _) $$ H
    icases H' with ⟨%hA, H⟩
    iexists A
    isplitr
    · ipureintro; exact fun w => hA w (Finset.mem_univ w)
    iexact H
  iintro ⟨Ha, Hr⟩
  ihave Ha := hsplit $$ Ha
  icases Ha with ⟨%A, %hArr, Ha⟩
  iexists (A o)
  isplitr
  · ipureintro; exact hArr o
  have hval : ∀ w, A w = mk (A o) (Pipeline.arrRef (cfgs p).spec w) := fun w => by
    by_cases hw : w = o
    · subst hw; exact (hmk _).symm
    · have h1 : A w = (rdats p c).A w := by
        have := hArr w
        rw [RDat.ArrAt_in (rdats p c) w (hin w hw)] at this
        exact this
      rw [h1, hA w, hmk' _ _ fun h => hw (kit.win.arr_inj h)]
  have hjoin : iprop((rdats p c).arrays A ∗ Pipeline.unscopedRest (Ix := Unit) (Name := ℕ) (U := UR sig nD τ) (Lvl := ℕ) (cfgs p).spec c V)
      ⊢ (unscopedBufs c (mk (A o)) : sProp 𝕄) := by
    rw [Pipeline.unscopedBufs_split (Pipeline.pin (pcfgs (F := F)) adm) p kit.win.arr_unscoped kit.win.arr_inj c (mk (A o)),
      Pipeline.RDat.arrays_eq (pcfgs (F := F)) adm rdats p c kit.arr_whole hshare]
    refine sep_mono (Entails.of_eq (bigSep_congr fun w _ => by rw [hval w])) (Entails.of_eq ?_)
    unfold Pipeline.unscopedRest
    exact bigSep_congr fun b hb => by
      rw [hmk' _ b fun h => (Finset.mem_sdiff.mp hb).2 (Finset.mem_image.mpr ⟨o, Finset.mem_univ _, h.symm⟩)]
  iapply hjoin
  isplitl [Ha] <;> iassumption

/-- A pipeline as a region: entered with the unscoped buffers at `V`, left at `B`, which holds with the
result array at any contents the proof data allow it and the others as they were. -/
def region (hshare : ∀ c w, (rdats p c).share w = fullShare) (howed : ∀ c t, (rdats p c).owed t = 0)
    (hrec : ∀ c t, (rdats p c).recorded t = Set.univ)
    (V : (c : Dev nD) → (b : Ref sig .tc) → Buf (Elt F) ((c : Thread nD τ).loc b))
    (hA : ∀ c w, (rdats p c).A w = V c (Pipeline.arrRef (cfgs p).spec w))
    (hbody : ∀ c, (rdats p c).BodyObligation defs₀ Variants.none () Set.univ)
    (hinΦ : ∀ c, Pipeline.scopedRest (cfgs p).spec c ⊢ (rdats p c).Φ 0)
    (houtΦ : ∀ c, (rdats p c).Φ (Fin.last (cfgs p).N) ⊢ Pipeline.scopedRest (cfgs p).spec c)
    (o : Fin (cfgs p).W) (hin : ∀ w, w ≠ o → ((cfgs p).win w).isOut = false)
    (mk : (c : Dev nD) → Buf (Elt F) ((c : Thread nD τ).loc (Pipeline.arrRef (cfgs p).spec o)) → (b : Ref sig .tc) → Buf (Elt F) ((c : Thread nD τ).loc b))
    (hmk : ∀ c G, mk c G (Pipeline.arrRef (cfgs p).spec o) = G)
    (hmk' : ∀ c G b, b ≠ Pipeline.arrRef (cfgs p).spec o → mk c G b = V c b)
    (B : Dev nD → sProp 𝕄) (hB : ∀ c G, (rdats p c).ArrAt o (cfgs p).N G → unscopedBufs c (mk c G) ⊢ B c) :
    RDat.RegionSeg (pcfgs (F := F)) adm rdats () defs₀ Variants.none (fun _ => ∅) (fun _ _ => 0) p where
  win := kit.win.to₀
  block_pos := kit.block_pos
  stage_whole := kit.stage_whole
  K := PEmpty
  osem k := k.elim
  ho := Pipeline.OwnSemFacts.none _
  hbody := hbody
  hwaits := RDat.hwaits_of_owed_zero _ _ _ _ _ _ p howed
  pre c := iprop(unscopedBufs c (V c) ∗ settled c)
  post c := iprop(B c ∗ settled c)
  X _ := BI.emp
  Y _ := BI.emp
  Z c := Pipeline.unscopedRest (Ix := Unit) (Name := ℕ) (U := UR sig nD τ) (Lvl := ℕ) (cfgs p).spec c (V c)
  hentry c := by
    rw [Pipeline.ownSems0_none]
    have hsplit := RDat.arrays_of_unscopedBufs (p := p) (pcfgs (F := F)) adm rdats kit.win kit.arr_whole c (hshare c) (V c) (hA c)
    unfold settled
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      rw [howed c 0]
      icases HO with ⟨%W, HO⟩; iexists W; isplitr
      · ipureintro; intro x _; left; rw [hrec c 0]; trivial
      iexact HO
    isplitr; · iempintro
    iexact Hrest
  hin c := by
    iintro ⟨-, -, Hr⟩
    iapply (hinΦ c)
    iexact Hr
  hout c := by
    rw [Pipeline.ownSems0_none]
    iintro Hr
    isplitr; · iempintro
    isplitr; · iempintro
    iapply (houtΦ c)
    iexact Hr
  hexit c := by
    iintro ⟨Ha, HO, -, Hrest⟩
    imodintro
    isplitl [Ha Hrest]
    · ihave H := (leave rdats kit c (hshare c) (V c) (hA c) o hin (mk c) (hmk c) (hmk' c)) $$ [Ha Hrest]
      · isplitl [Ha] <;> iassumption
      icases H with ⟨%G, %hG, H⟩
      iapply (hB c G hG)
      iexact H
    unfold RDat.owesAt Pipeline.owesWithin settled
    rw [howed c _]
    icases HO with ⟨%W, -, HO⟩; iexists W; iexact HO

end Region

end Cert.TwoLayer
-- ==== Proof.Run.lean ====
/-
  The whole program's run, at any number format.

  The host transposes the rows and the second weights, the first pipeline leaves the hidden array, the second leaves an
  array its proof data allow, and the host transposes that one into the result. No argument is written.
-/
module

public import proofs.«01_k».proof.Proof.Regions

@[expose] public section

noncomputable section

namespace Cert.TwoLayer

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕄" => MT nD τ sig Unit (Elt F) ℕ (UR sig nD τ) ℕ

variable (m : (ℓ : Loc nD τ sig) → Buf (Elt F) ℓ)

/-- The buffers the first pipeline is entered with: the host's two transposes done. -/
def entry0 (c : Dev nD) (b : Ref sig .tc) : Buf (Elt F) ((c : Thread nD τ).loc b) := V1 m c b

/-- The hidden array on core `c`. -/
def hid (c : Dev nD) : S64x1024.Idx → Elt F .f32 := hidden c (entry0 m c)

/-- The valuation between the pipelines, the hidden array at `H`. -/
def mid (c : Dev nD) (H : S64x1024.Idx → Elt F .f32) : Valuation τ sig (Elt F) := Function.update (V1 m c) main_v2 H

/-- The buffers the second pipeline is entered with. -/
def entry1 (c : Dev nD) (b : Ref sig .tc) : Buf (Elt F) ((c : Thread nD τ).loc b) := mid m c (hid m c) b

/-- The valuation behind the second pipeline, its result array at `G`. -/
def late (c : Dev nD) (G : S100000x1024.Idx → Elt F .f32) : Valuation τ sig (Elt F) :=
  Function.update (mid m c (hid m c)) main_v3 G

theorem mid_self (c : Dev nD) (H : S64x1024.Idx → Elt F .f32) : mid m c H main_v2 = H := Function.update_self _ _ _

theorem mid_of (c : Dev nD) (H : S64x1024.Idx → Elt F .f32) (b : Ref sig .tc) (h : b ≠ main_v2) :
    mid m c H b = V1 m c b := Function.update_of_ne (StableHlo.devRef_ne_of_ne h) _ _

theorem late_self (c : Dev nD) (G : S100000x1024.Idx → Elt F .f32) : late m c G main_v3 = G := Function.update_self _ _ _

theorem late_of (c : Dev nD) (G : S100000x1024.Idx → Elt F .f32) (b : Ref sig .tc) (h : b ≠ main_v3) :
    late m c G b = entry1 m c b := Function.update_of_ne (StableHlo.devRef_ne_of_ne h) _ _

/-- The two pipelines' proof data. -/
def rds : (p : Fin 2) → (c : Dev nD) → RDat τ (Elt F) Unit ℕ (UR sig nD τ) ℕ (Pipeline.pin (pcfgs (F := F)) adm p) c
  | ⟨0, _⟩, c => (dat0 c (entry0 m c)).toR
  | ⟨1, _⟩, c => (dat1 c (entry1 m c)).toRRel rel1 (Rel1 c (entry1 m c))

/-- What the second pipeline's result array may hold at the end. -/
def Out (c : Dev nD) (G : S100000x1024.Idx → Elt F .f32) : Prop :=
  ((dat1 c (entry1 m c)).toRRel rel1 (Rel1 c (entry1 m c))).ArrAt 3 cfg1.N G

/-- The first pipeline's result array at the end is the hidden array. -/
theorem arr0 (c : Dev nD) : (dat0 c (entry0 m c)).arrAt 3 cfg0.N = hid m c :=
  Pipeline.Dat.arrAt_eq_of_after_last (dat0 c (entry0 m c)) 3 ⟨48, by decide⟩ (by decide +kernel) (hid m c)
    fun j => rfl

/-- The staging buffers outside the first pipeline give the accumulator's cell and the way back. -/
theorem scratch_in (c : Dev nD) (V : (b : Ref sig .tc) → Buf (Elt F) ((c : Thread nD τ).loc b)) :
    (Pipeline.scopedRest spec0 c : sProp 𝕄) ⊢ scratchAt c V 0 := by
  unfold scratchAt
  iintro H
  ihave H := (Entails.of_eq (scopedRest0_eq (Ix := Unit) (Name := ℕ) (U := UR sig nD τ) (Lvl := ℕ) (Val := Elt F) c)) $$ H
  icases H with ⟨⟨%f, Hf⟩, Hr⟩
  isplitl [Hf]
  · iexists f
    isplitr
    · ipureintro; exact fun h => absurd rfl h
    iapply (Entails.of_eq (owns_whole_eq (c : Thread nD τ) cc0_scratch0 fullShare f).symm)
    iexists f
    isplitr
    · ipureintro; rfl
    iexact Hf
  iintro Hf
  iapply (Entails.of_eq (scopedRest0_eq (Ix := Unit) (Name := ℕ) (U := UR sig nD τ) (Lvl := ℕ) (Val := Elt F) c).symm)
  isplitl [Hf] <;> iassumption

/-- The accumulator's cell goes back among the staging buffers. -/
theorem scratch_out (c : Dev nD) (V : (b : Ref sig .tc) → Buf (Elt F) ((c : Thread nD τ).loc b)) (n : ℕ) :
    scratchAt c V n ⊢ (Pipeline.scopedRest spec0 c : sProp 𝕄) := by
  unfold scratchAt
  iintro ⟨⟨%s, -, Hs⟩, Hr⟩
  iapply Hr
  ihave Hs := (Entails.of_eq (owns_whole_eq (c : Thread nD τ) cc0_scratch0 fullShare s)) $$ Hs
  icases Hs with ⟨%f, -, Hs⟩
  iexists f
  iexact Hs

/-- Behind the second pipeline: every unscoped buffer held, its result array at contents it may leave. -/
def behind (c : Dev nD) : sProp 𝕄 :=
  iprop(∃ G, ⌜Out m c G⌝ ∗ StableHlo.held (c : Thread nD τ) (Pipeline.ucRefs τ sig) (late m c G))

theorem left0 (c : Dev nD) (G : S64x1024.Idx → Elt F .f32) (h : (dat0 c (entry0 m c)).toR.ArrAt 3 cfg0.N G) :
    (unscopedBufs c (fun b => mid m c G b) : sProp 𝕄) ⊢ unscopedBufs c (entry1 m c) := by
  rw [((Dat.toR_arrAt_iff (dat0 c (entry0 m c)) 3 cfg0.N G).mp h).trans (arr0 m c)]
  exact .rfl

theorem left1 (c : Dev nD) (G : S100000x1024.Idx → Elt F .f32) (h : Out m c G) :
    (unscopedBufs c (fun b => late m c G b) : sProp 𝕄) ⊢ behind m c := by
  rw [Pipeline.unscopedBufs_held (Ix := Unit) (Name := ℕ) (U := UR sig nD τ) (Lvl := ℕ) c (late m c G)]
  unfold behind
  iintro H
  iexists G
  isplitr
  · ipureintro; exact h
  iexact H

/-- The first pipeline as a region. -/
def region0 : RDat.RegionSeg (pcfgs (F := F)) adm (rds m) () defs₀ Variants.none (fun _ => ∅) (fun _ _ => 0) 0 :=
  region (p := 0) (rds m) launch0 (fun c => (dat0 c (entry0 m c)).toR.share_full fun _ => rfl) (fun _ _ => rfl) (fun _ _ => rfl)
    (entry0 m) (fun _ _ => rfl)
    (fun c => (body0 c (entry0 m c)).toR) (fun c => scratch_in c (entry0 m c)) (fun c => scratch_out c (entry0 m c) 49)
    (3 : Fin 4) (by decide) (fun c (G : S64x1024.Idx → Elt F .f32) b => mid m c G b)
    (fun c G => mid_self m c G) (fun c G b h => mid_of m c G b h) (fun c => unscopedBufs c (entry1 m c)) (fun c G h => left0 m c G h)

/-- The second pipeline as a region. -/
def region1 : RDat.RegionSeg (pcfgs (F := F)) adm (rds m) () defs₀ Variants.none (fun _ => ∅) (fun _ _ => 0) 1 :=
  region (p := 1) (rds m) launch1 (fun c => ((dat1 c (entry1 m c)).toRRel rel1 (Rel1 c (entry1 m c))).share_full fun _ => rfl)
    (fun _ _ => rfl) (fun _ _ => rfl) (entry1 m) (fun _ _ => rfl)
    (fun c => (body1 c (entry1 m c)).toRRel) (fun c => .rfl) (fun c => .rfl)
    (3 : Fin 4) (by decide) (fun c (G : S100000x1024.Idx → Elt F .f32) b => late m c G b)
    (fun c G => late_self m c G) (fun c G b h => late_of m c G b h) (behind m) (fun c G h => left1 m c G h)

/-- The valuation at the end, the second pipeline's result array at `G`. -/
def final (c : Dev nD) (G : S100000x1024.Idx → Elt F .f32) : Valuation τ sig (Elt F) := StableHlo.after hostOps2 (late m c G)

/-- What no host line and no pipeline writes is at the end as launched. -/
theorem final_of (c : Dev nD) (G : S100000x1024.Idx → Elt F .f32) (b : Ref sig .tc) (h4 : b ∉ hostOps2_W) (h3 : b ≠ main_v3)
    (h2 : b ≠ main_v2) (h0 : b ∉ hostOps0_W) : final m c G b = m ((c : Thread nD τ).loc b) :=
  (StableHlo.after_of_writes_sub hostOps2 _ hostOps2_writes h4).trans
    ((late_of m c G b h3).trans ((mid_of m c _ b h2).trans (V1_of m c b h0)))

/-- The last host line from named contents. -/
def tailAt (c₀ : Dev nD) (G : S100000x1024.Idx → Elt F .f32) :
    HostSeg (Ix := Unit) (Name := ℕ) (U := UR sig nD τ) (Lvl := ℕ) (pcfgs (F := F)) defs₀ Variants.none (fun _ => ∅) (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun _ => late m c₀ G) (fun c => settled c)

/-- At the end: every unscoped buffer held, the result the transpose of an array the second pipeline may leave. -/
def ended (c : Dev nD) : sProp 𝕄 :=
  iprop(∃ G, ⌜Out m c G⌝ ∗ StableHlo.held (c : Thread nD τ) (Pipeline.ucRefs τ sig) (final m c G))

/-- The last host line, whatever the second pipeline's result array holds. -/
def tail : HostSeg (Ix := Unit) (Name := ℕ) (U := UR sig nD τ) (Lvl := ℕ) (pcfgs (F := F)) defs₀ Variants.none (fun _ => ∅) (fun _ _ => 0) where
  prog := StableHlo.seq hostOps2
  pre c := iprop(behind m c ∗ settled c)
  post c := iprop(ended m c ∗ settled c)
  run c {β} k K := by
    unfold behind ended
    iintro ⟨Hk, Hbd, ⟨⟨%G, %hG, Hh⟩, HO⟩, Hl⟩
    have hrun := (tailAt m c G).run c k K
    rw [show (tailAt m c G).pre c = iprop(StableHlo.held (c : Thread nD τ) (Pipeline.ucRefs τ sig) (late m c G) ∗ settled c) from rfl,
      show (tailAt m c G).post c = iprop(StableHlo.held (c : Thread nD τ) (Pipeline.ucRefs τ sig) (final m c G) ∗ settled c) from rfl] at hrun
    iapply hrun
    isplitl [Hk]
    · iintro ⟨Hbd, Hh, HO⟩
      iapply Hk
      isplitl [Hbd]; · iexact Hbd
      isplitr [HO]
      · iexists G
        isplitr
        · ipureintro; exact hG
        iexact Hh
      iexact HO
    isplitl [Hbd]; · iexact Hbd
    isplitr [Hl]
    · isplitl [Hh] <;> iassumption
    iexact Hl

/-- The program's items on every core. -/
def items : List (RDat.Seg (pcfgs (F := F)) adm (rds m) () defs₀ Variants.none (fun _ => ∅) (fun _ _ => 0)) :=
  [.host (seg0 m Variants.none (fun _ => ∅) (fun _ _ => 0) (fun _ c => settled c)), .region (region0 m), .region (region1 m), .host (tail m)]

/-- What a core's memory holds at the end: the arguments as launched, and in the result the transpose of an array the second
pipeline may leave. -/
def Ends (c : Dev nD) (s : MemSt nD τ sig (Elt F)) : Prop :=
  (∃ G, Out m c G ∧ s.mem ((c.tc : Thread nD τ).loc main_v4) = final m c G main_v4)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- A buffer outside every pipeline is among those held between the items. -/
theorem mem_uc (b : Ref sig .tc) (h : b.isScoped = false) : (Proc.devRef (τ := τ) .tc b) ∈ Pipeline.ucRefs τ sig :=
  Finset.mem_filter.mpr ⟨StableHlo.devRef_mem_tcRefs b, by revert h; revert b; decide⟩

set_option backward.isDefEq.respectTransparency.types false in
/-- From any memory the program runs to the end without a race or a deadlock, every core ends as `Ends` says, and every
counter ends at zero. -/
theorem runs (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rds m) () cellOf_inj emb₁ defs₀ Variants.none (fun _ => ∅) (fun _ _ => 0)
    m ρ main (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [items, RDat.Seg.pipes_host, RDat.Seg.pipes_region, RDat.Seg.pipes_nil]; decide)
    0 (fun _ _ => rfl) (fun _ => iprop(emp)) (initOf (Pipeline.cells cfgs cellOf_inj) (Pipeline.launchToks cfgs cellOf_inj)) ?_
    (fun c => iprop(StableHlo.held (c : Thread nD τ) (Pipeline.ucRefs τ sig) (V0 m c) ∗ settled c))
    (ended m)
    (fun c => ⟨.rfl, ?_, .rfl, .rfl, .rfl⟩) ?_ (Ends m) (fun c s' => ?_)
    (fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => BI.emp) from by rw [BI.bigSep_emp_const])
    iempintro
  · show iprop(StableHlo.held _ _ _ ∗ settled c) ⊢ (iprop(unscopedBufs c (entry0 m c) ∗ settled c) : sProp 𝕄)
    refine sep_mono (Entails.of_eq ?_) .rfl
    exact (Pipeline.unscopedBufs_held (Ix := Unit) (Name := ℕ) (U := UR sig nD τ) (Lvl := ℕ) c (V1 m c)).symm
  · refine Pipeline.initEach (fun _ => ∅) (fun _ _ => 0) fun c => ?_
    rw [show unscopedBufs c (fun b => m ((c.tc : Thread nD τ).loc b)) = StableHlo.held c.tc (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    unfold settled
    iexists ∅
    iexact HO
  · unfold ended StableHlo.held
    iintro ⟨⟨%G, %hG, Hh⟩, HSI⟩
    ihave Hr := (pointsTo_read_all (Pipeline.ucRefs τ sig) (fun b => ((c : Thread nD τ).1, b)) (final m c G) s') $$ [Hh HSI]
    · isplitl [Hh] <;> iassumption
    icases Hr with ⟨%h, HSI⟩
    imodintro
    isplitr
    · ipureintro
      have harg : ∀ b : Ref sig .tc, b.isScoped = false → b ∉ hostOps2_W → b ≠ main_v3 → b ≠ main_v2 → b ∉ hostOps0_W →
          s'.mem.mem ((c.tc : Thread nD τ).loc b) = m ((c.tc : Thread nD τ).loc b) := fun b hs h4 h3 h2 h0 =>
        (h (Proc.devRef .tc b) (mem_uc b hs)).trans (final_of m c G b h4 h3 h2 h0)
      exact ⟨⟨G, hG, h (Proc.devRef .tc main_v4) (mem_uc main_v4 rfl)⟩,
        harg main_arg0 rfl (by decide) (by decide) (by decide) (by decide), harg main_arg1 rfl (by decide) (by decide) (by decide) (by decide),
        harg main_arg2 rfl (by decide) (by decide) (by decide) (by decide), harg main_arg3 rfl (by decide) (by decide) (by decide) (by decide),
        harg main_arg4 rfl (by decide) (by decide) (by decide) (by decide)⟩
    iexact HSI

end Cert.TwoLayer
-- ==== Proof.Printed.lean ====
/-
  The kernel as it was printed runs to its end, leaves its arguments and leaves its semaphores at zero.
-/
module

public import proofs.«01_k».proof.Defs
public import proofs.«01_k».proof.Proof.Gen.Kernel
public import proofs.«01_k».proof.Proof.Run

@[expose] public section

noncomputable section

namespace Cert.TwoLayer

open Idealize.ShloMosaic
open Idealize.ShloMosaic.TcCoe

section Printed

variable {F : FTy → Type} [FloatOps F]

/-- The printed kernel's bodies are those of its idealized print. -/
theorem bodies_eq : (Cert.Kernel.defs₀ (F := F)) = Cert.KernelIdeal.defs₀ (F := F) :=
  congrArg Defs.onTc (funext fun l => funext fun x => match l, x with
    | 0, (_, _) => rfl
    | 1, (_, _) => rfl
    | ⟨_ + 2, h⟩, _ => absurd h (Nat.not_lt.2 (Nat.le_add_left _ _)))

/-- So are its pipelines. -/
theorem defs_eq : (Cert.Kernel.defs (F := F)) = Cert.KernelIdeal.defs (F := F) :=
  congrArg (Pipeline.defs (Cert.KernelIdeal.pcfgs (F := F))) bodies_eq

end Printed

/-- The kernel as printed ends with its five arguments as they were and every semaphore at zero. -/
theorem frame_printed : Cert.quiescent_Kernel := fun m ρ _ => by
  rw [defs_eq]
  exact θ_run_mono (runs (F := Bits) m ρ) fun r h => ⟨fun c => (h.1 c).2, h.2⟩

/-- So does its idealized print. -/
theorem frame_ideal : Cert.quiescent_KernelIdeal := fun m ρ _ =>
  θ_run_mono (runs (F := Ideal) m ρ) fun r h => ⟨fun c => (h.1 c).2, h.2⟩

end Cert.TwoLayer
-- ==== Proof.BlockValue.lean ====
/-
  The kernels' block computations over the extended reals, read at one element.
-/
module

public import proofs.«01_k».proof.Proof.Fc1Block
public import Idealize.ShloMosaic.PureOps.Ideal
public import Idealize.ShloMosaic.Lib.Pointwise

@[expose] public section

noncomputable section

namespace Cert.TwoLayer

open Cert.KernelIdeal Cert.KernelIdeal.Gen

open Idealize.ShloMosaic
open Idealize.ShloMosaic.TcCoe

/-- The running sum starts at zero. -/
theorem start_apply (e : Fin 64) (b : Fin 1024) : k0_pay1 (F := Ideal) (ix2 e b) = (0 : EReal) := by
  pointwise [k0_pay1]

/-- One point adds a product's row times column to the running sum. -/
theorem add_apply (x : S2048x1024.Idx → EReal) (w : S64x2048.Idx → EReal) (s : S64x1024.Idx → EReal) (e : Fin 64) (b : Fin 1024) :
    k0_pay3 (F := Ideal) x w s (ix2 e b) = s (ix2 e b) + ∑ k : Fin 2048, w (ix2 e k) * x (ix2 k b) := by
  pointwise [k0_pay3, k0_pay2]

/-- The hidden array is the running sum plus the first bias. -/
theorem bias_apply (v : S64.Idx → EReal) (s : S64x1024.Idx → EReal) (e : Fin 64) (b : Fin 1024) :
    k0_pay5 (F := Ideal) v s (ix2 e b) = s (ix2 e b) + v (ix1 e) := by
  pointwise [k0_pay5]
  rw [Fin.sum_univ_one]

/-- The second kernel's block: a product's row times column plus the second bias. -/
theorem out_apply (v : S4096.Idx → EReal) (u : S64x4096.Idx → EReal) (h : S64x1024.Idx → EReal) (r : Fin 4096) (b : Fin 1024) :
    k1_pay1 (F := Ideal) v u h (ix2 r b) = (∑ e : Fin 64, u (ix2 e r) * h (ix2 e b)) + v (ix1 r) := by
  pointwise [k1_pay1]
  rw [Fin.sum_univ_one]

end Cert.TwoLayer
-- ==== Proof.HiddenValue.lean ====
/-
  The hidden array over the extended reals: at each element the whole row times column plus the bias.
-/
module

public import proofs.«01_k».proof.Proof.Fc1Region
public import proofs.«01_k».proof.Proof.BlockValue
public import Idealize.ShloMosaic.Lib.Pipeline.ValueKit

@[expose] public section

noncomputable section

namespace Cert.TwoLayer

open Cert.KernelIdeal Cert.KernelIdeal.Gen

open Idealize.ShloMosaic
open Idealize.ShloMosaic.TcCoe

variable (c : Dev nD) (V : (b : Ref sig .tc) → Buf (Elt Ideal) ((c : Thread nD τ).loc b))

theorem index0 : ∀ t : Fin cfg0.N, win0_0.index t = ![t.val, 0] := (by decide +kernel : ∀ t : Fin grid0.N, _)
theorem index1 : ∀ t : Fin cfg0.N, win0_1.index t = ![0, t.val] := (by decide +kernel : ∀ t : Fin grid0.N, _)

/-- The input's filled block at point `t`: the array's own rows, zero past its end; -/
theorem xFull_apply (t : Fin cfg0.N) (k : Fin 2048) (b : Fin 1024) :
    xFull c V t (ix2 k b) = if h : t.val * 2048 + k.val < 100000 then (V main_v0 : S100000x1024.Idx → EReal) (ix2 ⟨t.val * 2048 + k.val, h⟩ b) else (0 : EReal) := by
  unfold xFull Pipeline.Window.fill
  by_cases h : t.val * 2048 + k.val < 100000
  · rw [dif_pos h, dif_pos (moved0 t (ix2 k b) (by show k.val < _; omega))]
    unfold xPart
    blk_simp [index0]
    refine congrArg (V main_v0) ?_
    blk_ext [index0]
  · rw [dif_neg h, dif_neg]
    · exact Ideal.ofBits_zero_f32
    · intro hm
      have h0 := (win0_0.moved_iff _ _).mp hm 0
      rw [rows0 t] at h0
      have h1 : k.val < min 2048 (100000 - t.val * 2048) := h0
      omega

/-- the weight's: its own columns, zero past its end. -/
theorem wFull_apply (t : Fin cfg0.N) (e : Fin 64) (k : Fin 2048) :
    wFull c V t (ix2 e k) = if h : t.val * 2048 + k.val < 100000 then (V main_arg1 : S64x100000.Idx → EReal) (ix2 e ⟨t.val * 2048 + k.val, h⟩) else (0 : EReal) := by
  unfold wFull Pipeline.Window.fill
  by_cases h : t.val * 2048 + k.val < 100000
  · rw [dif_pos h, dif_pos (moved1 t (ix2 e k) (by show k.val < _; omega))]
    unfold wPart
    blk_simp [index1]
    refine congrArg (V main_arg1) ?_
    blk_ext [index1]
  · rw [dif_neg h, dif_neg]
    · exact Ideal.ofBits_zero_f32
    · intro hm
      have h0 := (win0_1.moved_iff _ _).mp hm 1
      rw [lanes1 t] at h0
      have h1 : k.val < min 2048 (100000 - t.val * 2048) := h0
      omega

/-- The product at the contraction's `k`th place, zero past its end. -/
def term (x : S100000x1024.Idx → EReal) (w : S64x100000.Idx → EReal) (e : Fin 64) (b : Fin 1024) (k : ℕ) : EReal :=
  if h : k < 100000 then w (ix2 e ⟨k, h⟩) * x (ix2 ⟨k, h⟩ b) else 0

/-- One point adds the products at its 2048 places. -/
theorem sumStep_apply (t : Fin cfg0.N) (s : S64x1024.Idx → EReal) (hs : t.val = 0 → s = k0_pay1 (F := Ideal)) (e : Fin 64) (b : Fin 1024) :
    sumStep (F := Ideal) (grid0.coords t) (xFull c V t) (wFull c V t) s (ix2 e b)
      = s (ix2 e b) + ∑ k : Fin 2048, term (V main_v0) (V main_arg1) e b (t.val * 2048 + k.val) := by
  have hs₀ : (if isFirst (grid0.coords t) then k0_pay1 (F := Ideal) else s) = s := by
    by_cases h : isFirst (grid0.coords t)
    · rw [if_pos h, hs ((isFirst_iff t).mp h)]
    · rw [if_neg h]
  have hterm : ∀ (x' : S2048x1024.Idx → EReal) (w' : S64x2048.Idx → EReal), (∀ j, x' j = xFull c V t j) → (∀ j, w' j = wFull c V t j) →
      k0_pay3 (F := Ideal) x' w' s (ix2 e b) = s (ix2 e b) + ∑ k : Fin 2048, term (V main_v0) (V main_arg1) e b (t.val * 2048 + k.val) := by
    intro x' w' hx hw
    rw [add_apply]
    refine congrArg (s (ix2 e b) + ·) (Finset.sum_congr rfl fun k _ => ?_)
    rw [hx, hw, xFull_apply, wFull_apply]
    unfold term
    by_cases h : t.val * 2048 + k.val < 100000
    · rw [dif_pos h, dif_pos h, dif_pos h]
    · rw [dif_neg h, dif_neg h, dif_neg h, mul_zero]
  unfold sumStep
  simp only [hs₀]
  have ht : t.val < 49 := t.isLt
  by_cases h48 : t.val = 48
  · rw [if_pos ((isEdge_iff t).mpr h48), if_neg (fun h => by have := (isInner_iff t).mp h; omega), pay4_eq]
    refine hterm _ _ (fun j => ?_) (fun j => ?_)
    · obtain ⟨k, b', rfl⟩ : ∃ (k : Fin 2048) (b' : Fin 1024), j = ix2 k b' := ⟨j 0, j 1, eq_ix2 j⟩
      have hk : ((ix2 k b' : S2048x1024.Idx) 0).val = k.val := rfl
      rw [hk, inBound_last t h48 k.val k.isLt, xFull_apply]
      by_cases h : k.val < 1696
      · rw [if_pos (decide_eq_true h)]
      · rw [if_neg (by simp [h]), dif_neg (by omega)]
        exact Ideal.ofBits_zero_f32
    · obtain ⟨e', k, rfl⟩ : ∃ (e' : Fin 64) (k : Fin 2048), j = ix2 e' k := ⟨j 0, j 1, eq_ix2 j⟩
      have hk : ((ix2 e' k : S64x2048.Idx) 1).val = k.val := rfl
      rw [hk, inBound_last t h48 k.val k.isLt, wFull_apply]
      by_cases h : k.val < 1696
      · rw [if_pos (decide_eq_true h)]
      · rw [if_neg (by simp [h]), dif_neg (by omega)]
        exact Ideal.ofBits_zero_f32
  · rw [if_neg (fun h => h48 ((isEdge_iff t).mp h)), if_pos ((isInner_iff t).mpr (by omega))]
    exact hterm _ _ (fun _ => rfl) (fun _ => rfl)

/-- The running sum after `n` points is the sum of the products at the first `n` blocks' places. -/
theorem acc_apply (e : Fin 64) (b : Fin 1024) : ∀ n : ℕ, n ≤ 49 →
    acc (F := Ideal) c V n (ix2 e b) = ∑ k ∈ Finset.range (n * 2048), term (V main_v0) (V main_arg1) e b k
  | 0, _ => by
    rw [Nat.zero_mul, Finset.range_zero, Finset.sum_empty]
    exact start_apply e b
  | n + 1, hn => by
    have ih := acc_apply e b n (by omega)
    have hN : n < cfg0.N := hn
    refine (congrFun (acc_succ c V ⟨n, hN⟩) (ix2 e b)).trans ?_
    rw [sumStep_apply c V ⟨n, hN⟩ (acc c V n) (fun h => by have h' : n = 0 := h; subst h'; rfl), ih, Nat.succ_mul, Finset.sum_range_add,
      Finset.sum_range (f := fun k => term (V main_v0) (V main_arg1) e b (n * 2048 + k))]

theorem term_past (x : S100000x1024.Idx → EReal) (w : S64x100000.Idx → EReal) (e : Fin 64) (b : Fin 1024) (k : ℕ) (h : 100000 ≤ k) :
    term x w e b k = 0 := dif_neg (Nat.not_lt.mpr h)

theorem term_within (x : S100000x1024.Idx → EReal) (w : S64x100000.Idx → EReal) (e : Fin 64) (b : Fin 1024) (k : Fin 100000) :
    term x w e b k.val = w (ix2 e k) * x (ix2 k b) := dif_pos k.isLt

/-- The products at all the places the points visit sum to the row times the column. -/
theorem sum_term (x : S100000x1024.Idx → EReal) (w : S64x100000.Idx → EReal) (e : Fin 64) (b : Fin 1024) :
    ∑ k ∈ Finset.range (49 * 2048), term x w e b k = ∑ k : Fin 100000, w (ix2 e k) * x (ix2 k b) := by
  rw [← Finset.sum_subset (Finset.range_mono (by norm_num : 100000 ≤ 49 * 2048))
    fun k _ hk => term_past x w e b k (Nat.not_lt.mp fun h => hk (Finset.mem_range.mpr h)), Finset.sum_range]
  exact Finset.sum_congr rfl fun k _ => term_within x w e b k

/-- The hidden array at an element. -/
theorem hidden_apply (x : S100000x1024.Idx → EReal) (w : S64x100000.Idx → EReal) (v : S64.Idx → EReal)
    (hx : V main_v0 = x) (hw : V main_arg1 = w) (hv : V main_arg2 = v) (e : Fin 64) (b : Fin 1024) :
    hidden (F := Ideal) c V (ix2 e b) = (∑ k : Fin 100000, w (ix2 e k) * x (ix2 k b)) + v (ix1 e) := by
  unfold hidden
  rw [bias_apply, acc_apply c V e b 49 le_rfl, hx, hw, hv, sum_term]

end Cert.TwoLayer
-- ==== Proof.OutValue.lean ====
/-
  The second pipeline's result array over the extended reals: whatever its staging buffers hold past the arrays' ends,
  every element inside the array is the row times column plus the bias.
-/
module

public import proofs.«01_k».proof.Proof.Run
public import proofs.«01_k».proof.Proof.HiddenValue

@[expose] public section

noncomputable section

namespace Cert.TwoLayer

open Cert.KernelIdeal Cert.KernelIdeal.Gen

open Idealize.ShloMosaic
open Idealize.ShloMosaic.TcCoe
open Idealize.ShloMosaic.Pipeline (Dat RDat)

section Row

variable (c : Dev nD) (V : (b : Ref sig .tc) → Buf (Elt Ideal) ((c : Thread nD τ).loc b))

theorem index2 : ∀ t : Fin cfg1.N, win1_1.index t = ![0, t.val] := (by decide +kernel : ∀ t : Fin grid1.N, _)
theorem index3 : ∀ t : Fin cfg1.N, win1_2.index t = ![t.val] := (by decide +kernel : ∀ t : Fin grid1.N, _)
theorem index4 : ∀ t : Fin cfg1.N, win1_3.index t = ![t.val, 0] := (by decide +kernel : ∀ t : Fin grid1.N, _)

theorem rows2 : ∀ t : Fin grid1.N, win1_1.xsize (grid1.coords t) 0 = 64 := by decide +kernel
theorem lanes2 : ∀ t : Fin grid1.N, win1_1.xsize (grid1.coords t) 1 = min 4096 (100000 - t.val * 4096) := by decide +kernel
theorem lanes3 : ∀ t : Fin grid1.N, win1_2.xsize (grid1.coords t) 0 = min 4096 (100000 - t.val * 4096) := by decide +kernel
theorem rows4 : ∀ t : Fin grid1.N, win1_3.xsize (grid1.coords t) 0 = min 4096 (100000 - t.val * 4096) := by decide +kernel
theorem lanes4 : ∀ t : Fin grid1.N, win1_3.xsize (grid1.coords t) 1 = 1024 := by decide +kernel

/-- Inside the array the weight's block is the array's own columns, whatever fills it past the end; -/
theorem uFill_apply (t : Fin cfg1.N) (d : S64x4096.Idx → EReal) (u : S64x100000.Idx → EReal) (hu : V main_v1 = u) (e : Fin 64) (r : Fin 4096)
    (h : t.val * 4096 + r.val < 100000) :
    win1_1.fill (grid1.coords t) d (uPart c V t) (ix2 e r) = u (ix2 e ⟨t.val * 4096 + r.val, h⟩) := by
  subst hu
  unfold Pipeline.Window.fill
  rw [dif_pos ((win1_1.moved_iff _ _).mpr fun a => by
    match a with
    | ⟨0, _⟩ => exact lt_of_lt_of_eq e.isLt (rows2 t).symm
    | ⟨1, _⟩ => exact lt_of_lt_of_eq (show r.val < min 4096 (100000 - t.val * 4096) by omega) (lanes2 t).symm)]
  unfold uPart
  blk_simp [index2]
  refine congrArg (V main_v1) ?_
  blk_ext [index2]

/-- the bias's block is the array's own elements. -/
theorem bFill_apply (t : Fin cfg1.N) (d : S4096.Idx → EReal) (v : S100000.Idx → EReal) (hv : V main_arg4 = v) (r : Fin 4096)
    (h : t.val * 4096 + r.val < 100000) :
    win1_2.fill (grid1.coords t) d (bPart c V t) (ix1 r) = v (ix1 ⟨t.val * 4096 + r.val, h⟩) := by
  subst hv
  unfold Pipeline.Window.fill
  rw [dif_pos ((win1_2.moved_iff _ _).mpr fun a => by
    match a with
    | ⟨0, _⟩ => exact lt_of_lt_of_eq (show r.val < min 4096 (100000 - t.val * 4096) by omega) (lanes3 t).symm)]
  unfold bPart
  blk_simp [index3]
  refine congrArg (V main_arg4) ?_
  blk_ext [index3]

/-- The second layer at an element. -/
def layer (u : S64x100000.Idx → EReal) (h : S64x1024.Idx → EReal) (v : S100000.Idx → EReal) : S100000x1024.Idx → EReal :=
  fun j => (∑ e : Fin 64, u (ix2 e (j 0)) * h (ix2 e (j 1))) + v (ix1 (j 0))

/-- What a point may leave in the output buffer is the second layer at every element inside the array. -/
theorem Row_apply (t : Fin cfg1.N) (X : S4096x1024.Idx → EReal) (hX : Row (F := Ideal) c V t X)
    (u : S64x100000.Idx → EReal) (hu : V main_v1 = u) (a : S64x1024.Idx → EReal) (ha : V main_v2 = a)
    (v : S100000.Idx → EReal) (hv : V main_arg4 = v) (r : Fin 4096) (b : Fin 1024) (h : t.val * 4096 + r.val < 100000) :
    X (ix2 r b) = layer u a v (ix2 ⟨t.val * 4096 + r.val, h⟩ b) := by
  obtain ⟨d1, d2, rfl⟩ := hX
  rw [out_apply, bFill_apply c V t d2 v hv r h, ha]
  refine congrArg (· + _) (Finset.sum_congr rfl fun e _ => ?_)
  rw [uFill_apply c V t d1 u hu e r h]
  rfl

/-- Where the result's block puts its element. -/
theorem place (t : Fin cfg1.N) (y : (win1_3.xblock (grid1.coords t)).Idx) (h0 : t.val * 4096 + (y 0).val < 100000) (h1 : (y 1).val < 1024) :
    (ix2 ⟨t.val * 4096 + (y 0).val, h0⟩ ⟨(y 1).val, h1⟩ : S100000x1024.Idx) = (win1_3.blk t).view.emb y := by
  blk_ext [index4]

/-- The second pipeline's result array is the second layer. -/
theorem arr1 (G : S100000x1024.Idx → EReal) (hG : ((dat1 (F := Ideal) c V).toRRel rel1 (Rel1 c V)).ArrAt 3 cfg1.N G)
    (u : S64x100000.Idx → EReal) (hu : V main_v1 = u) (a : S64x1024.Idx → EReal) (ha : V main_v2 = a)
    (v : S100000.Idx → EReal) (hv : V main_arg4 = v) : G = layer u a v := by
  obtain ⟨X, hX, hGX⟩ := RDat.ArrAt.exists_exact hG
  rw [hGX (Function.update (dat1 c V).after 3 X) fun t _ _ => congrFun (Function.update_self _ _ _) t]
  refine Dat.arrAt_eq_of_covers (((dat1 c V).toRRel rel1 (Rel1 c V)).withAfter (Function.update (dat1 c V).after 3 X)) 3 (layer u a v) (by decide +kernel) fun t hf y => ?_
  have hrow : Row (F := Ideal) c V t (X t) := Dat.toRRel_leaves (dat1 c V) rfl (hX t t.isLt hf)
  rw [RDat.withAfter_after, Function.update_self]
  have h0 : (y 0).val < min 4096 (100000 - t.val * 4096) := lt_of_lt_of_eq (y 0).isLt (rows4 t)
  have h1 : (y 1).val < 1024 := lt_of_lt_of_eq (y 1).isLt (lanes4 t)
  have key := Row_apply c V t (X t) hrow u hu a ha v hv ⟨(y 0).val, by omega⟩ ⟨(y 1).val, h1⟩ (by show t.val * 4096 + (y 0).val < 100000; omega)
  refine Eq.trans (congrArg (X t) ?_) (key.trans (congrArg (layer u a v) (place t y _ h1)))
  blk_ext [index4]

end Row

end Cert.TwoLayer
-- ==== Proof.RefValue.lean ====
/-
  The function both programs compute over the extended reals, and that the reference computes it.
-/
module

public import proofs.«01_k».proof.Proof.Gen.ReferenceIdeal.Run
public import Idealize.ShloMosaic.PureOps.Ideal
public import Idealize.ShloMosaic.Lib.Pointwise

@[expose] public section

noncomputable section

namespace Cert.TwoLayer

open Cert.ReferenceIdeal Cert.ReferenceIdeal.Gen

open Idealize.ShloMosaic
open Idealize.ShloMosaic.TcCoe

/-- Two linear layers: `(x · w1ᵀ + b1) · w2ᵀ + b2` at each element. -/
def twoLayer (x : S1024x100000.Idx → EReal) (w1 : S64x100000.Idx → EReal) (b1 : S64.Idx → EReal)
    (w2 : S100000x64.Idx → EReal) (b2 : S100000.Idx → EReal) : S1024x100000.Idx → EReal :=
  fun j => (∑ e : Fin 64, w2 (ix2 (j 1) e) * ((∑ k : Fin 100000, w1 (ix2 e k) * x (ix2 (j 0) k)) + b1 (ix1 e))) + b2 (ix1 (j 1))

/-- A product in either order makes the same sum of sums. -/
theorem turned {p q : Nat} (x w : Fin p → Fin q → EReal) (b u : Fin p → EReal) (v : EReal) :
    (∑ e, ((∑ k, x e k * w e k) + b e) * u e) + v = (∑ e, u e * ((∑ k, w e k * x e k) + b e)) + v := by
  refine congrArg (· + v) (Finset.sum_congr rfl fun e _ => ?_)
  rw [mul_comm]
  refine congrArg (fun z => u e * (z + b e)) (Finset.sum_congr rfl fun k _ => mul_comm _ _)

/-- The reference's composed term is the two layers. -/
theorem ref_eq (x : S1024x100000.Idx → EReal) (w1 : S64x100000.Idx → EReal) (b1 : S64.Idx → EReal)
    (w2 : S100000x64.Idx → EReal) (b2 : S100000.Idx → EReal) :
    addf (F := Ideal) (φ := .f32) (Host.dotGeneral (F := Ideal) (φ₁ := .f32) (φ₂ := .f32) dot_S1024x64_S64x100000_S1024x100000_1_0_0_1_n_n none
        (addf (F := Ideal) (φ := .f32) (Host.dotGeneral (F := Ideal) (φ₁ := .f32) (φ₂ := .f32) dot_S1024x100000_S100000x64_S1024x64_1_0_0_1_n_n none x
            (transpose (α := EReal) S100000x64 [1, 0] w1 transposes_S64x100000_S100000x64_1_0))
          (broadcastInDim S1024x64 ![0, 1] bcast_S1x64_S1024x64_0_1 (broadcastInDim S1x64 ![1] bcast_S64_S1x64_1 b1)))
        (transpose (α := EReal) S64x100000 [1, 0] w2 transposes_S100000x64_S64x100000_1_0))
      (broadcastInDim S1024x100000 ![0, 1] bcast_S1x100000_S1024x100000_0_1 (broadcastInDim S1x100000 ![1] bcast_S100000_S1x100000_1 b2))
      = twoLayer x w1 b1 w2 b2 := by
  funext j
  idx_vars j
  pointwise [twoLayer]
  exact turned (fun e k => x (ix2 j0 k)) (fun e k => w1 (ix2 e k)) (fun e => b1 (ix1 e)) (fun e => w2 (ix2 j1 e)) (b2 (ix1 j1))

end Cert.TwoLayer
-- ==== Proof.KernelValue.lean ====
/-
  The kernel's result over the extended reals is the two layers.
-/
module

public import proofs.«01_k».proof.Proof.OutValue
public import proofs.«01_k».proof.Proof.RefValue

@[expose] public section

noncomputable section

namespace Cert.TwoLayer

open Cert.KernelIdeal Cert.KernelIdeal.Gen

open Idealize.ShloMosaic
open Idealize.ShloMosaic.TcCoe

variable (m : (ℓ : Loc nD τ sig) → Buf (Elt Ideal) ℓ) (c : Dev nD)

/-- The five arguments on core `c`. -/
def inX : S1024x100000.Idx → EReal := m ((c : Thread nD τ).loc main_arg0)
def inW1 : S64x100000.Idx → EReal := m ((c : Thread nD τ).loc main_arg1)
def inB1 : S64.Idx → EReal := m ((c : Thread nD τ).loc main_arg2)
def inW2 : S100000x64.Idx → EReal := m ((c : Thread nD τ).loc main_arg3)
def inB2 : S100000.Idx → EReal := m ((c : Thread nD τ).loc main_arg4)

/-- The host's two transposes, -/
theorem entry_v0 : entry0 m c main_v0 = transpose S100000x1024 [1, 0] (inX m c) transposes_S1024x100000_S100000x1024_1_0 := by
  show StableHlo.after hostOps0 (V0 m c) _ = _
  after_results
  rfl

theorem entry_v1 : entry0 m c main_v1 = transpose S64x100000 [1, 0] (inW2 m c) transposes_S100000x64_S64x100000_1_0 := by
  show StableHlo.after hostOps0 (V0 m c) _ = _
  after_results
  rfl

/-- and the last one. -/
theorem final_v4 (G : S100000x1024.Idx → EReal) :
    final m c G main_v4 = transpose S1024x100000 [1, 0] G transposes_S100000x1024_S1024x100000_1_0 := by
  refine Eq.trans ?_ (congrArg (fun z => transpose S1024x100000 [1, 0] z transposes_S100000x1024_S1024x100000_1_0) (late_self m c G))
  show StableHlo.after hostOps2 (late m c G) _ = _
  after_results

/-- Equal right factors make equal sums. -/
theorem sum_right {q : Nat} (w x y : Fin q → EReal) (v : EReal) (h : ∀ k, x k = y k) :
    (∑ k, w k * x k) + v = (∑ k, w k * y k) + v := by
  rw [show x = y from funext h]

/-- The hidden array at an element. -/
theorem hid_apply (e : Fin 64) (b : Fin 1024) :
    hid m c (ix2 e b) = (∑ k : Fin 100000, inW1 m c (ix2 e k) * inX m c (ix2 b k)) + inB1 m c (ix1 e) := by
  unfold hid
  rw [hidden_apply c (entry0 m c) _ (inW1 m c) (inB1 m c) (entry_v0 m c) (V1_of m c main_arg1 (by decide)) (V1_of m c main_arg2 (by decide))]
  refine sum_right _ _ _ _ fun k => ?_
  pointwise

/-- The result at the end is the two layers of the arguments. -/
theorem kernel_eq (G : S100000x1024.Idx → EReal) (hG : Out (F := Ideal) m c G) :
    final m c G main_v4 = twoLayer (inX m c) (inW1 m c) (inB1 m c) (inW2 m c) (inB2 m c) := by
  rw [final_v4, arr1 c (entry1 m c) G hG (transpose S64x100000 [1, 0] (inW2 m c) transposes_S100000x64_S64x100000_1_0)
    ((mid_of m c _ main_v1 (by decide)).trans (entry_v1 m c)) (hid m c) (mid_self m c _) (inB2 m c)
    ((mid_of m c _ main_arg4 (by decide)).trans (V1_of m c main_arg4 (by decide)))]
  funext j
  idx_vars j
  pointwise [layer, twoLayer]
  exact sum_right _ _ _ _ fun e => hid_apply m c e _

end Cert.TwoLayer
-- ==== Proof.Equal.lean ====
/-
  The kernel and the reference, from the same arguments, end with the same result; and the reference leaves its
  arguments and its semaphores as they should be.
-/
module

public import proofs.«01_k».proof.Defs
public import proofs.«01_k».proof.Proof.KernelValue

@[expose] public section

noncomputable section

namespace Cert.TwoLayer

open Idealize.ShloMosaic
open Idealize.ShloMosaic.TcCoe

section Reference

open Cert.ReferenceIdeal

variable (m : (ℓ : Loc nD τ sig) → Buf (Elt Ideal) ℓ)

/-- The reference ends with the two layers of its arguments as its result, and its arguments as they were. -/
theorem ref_runs (ρ : Dev nD → PrngReg) :
    θ_run (defs (F := Ideal)) (onTc (τ := τ) (main (F := Ideal))) ⟨m, fun _ => 0, ρ⟩ fun r => ∀ c : Dev nD,
      r.2.mem ((c : Thread nD τ).loc main_v9) = twoLayer (m ((c : Thread nD τ).loc main_arg0)) (m ((c : Thread nD τ).loc main_arg1))
          (m ((c : Thread nD τ).loc main_arg2)) (m ((c : Thread nD τ).loc main_arg3)) (m ((c : Thread nD τ).loc main_arg4))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4) :=
  θ_run_mono (Cert.ReferenceIdeal.Value.run m ρ) fun _ h c => ⟨(h c).1.trans (ref_eq _ _ _ _ _), (h c).2⟩

/-- The reference ends with its five arguments as they were and every semaphore at zero. -/
theorem frame_ref : Cert.quiescent_ReferenceIdeal := fun m ρ _ =>
  θ_run_mono (ref_runs m ρ) fun r h => ⟨fun c => (h c).2, sem_eq_zero_of_no_sems (by decide) r.2⟩

end Reference

/-- From the same arguments, the kernel and the reference end with equal results. -/
theorem equal : Cert.algebraic_KernelIdeal_ReferenceIdeal := fun m ρ m' ρ' _ ha =>
  ⟨fun c => twoLayer (inX m c) (inW1 m c) (inB1 m c) (inW2 m c) (inB2 m c),
    θ_run_mono (runs (F := Ideal) m ρ) fun _ h c => by
      obtain ⟨⟨G, hG, hv⟩, hr⟩ := h.1 c
      exact ⟨hv.trans (kernel_eq m c G hG), hr⟩,
    θ_run_mono (ref_runs m' ρ') fun _ h c => by
      obtain ⟨hv, hr⟩ := h c
      obtain ⟨h0, h1, h2, h3, h4⟩ := ha c
      refine ⟨hv.trans ?_, hr⟩
      rw [h0, h1, h2, h3, h4]
      rfl⟩

end Cert.TwoLayer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Printed
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All five claims: the three frames, the kernel's idealized print being its own, and the equal results. -/
theorem claim : Cert.Claim := ⟨Cert.Kernel.Gen.facts, Cert.KernelIdeal.Gen.facts, Cert.ReferenceIdeal.Gen.facts,
  Cert.TwoLayer.frame_printed, Cert.TwoLayer.frame_ideal, Cert.TwoLayer.frame_ref, trivial, Cert.TwoLayer.equal⟩

end Cert.Proof

end
